-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_range [hPre_exact_range : Cert.Pre_exact_range.Facts] (m : (ℓ : Loc Cert.KernelIdeal.nD Cert.KernelIdeal.τ Cert.KernelIdeal.sig) → Buf (Elt Ideal) ℓ) : Prop :=
  ∀ c : Dev Cert.KernelIdeal.nD,
    (Cert.Pre_exact_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_range [hPre_exact_range : Cert.Pre_exact_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_exact_range [hKernelIdeal : Cert.KernelIdeal.Facts] [hPre_exact_range : Cert.Pre_exact_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_exact_range [hReferenceIdeal : Cert.ReferenceIdeal.Facts] [hPre_exact_range : Cert.Pre_exact_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv127" .f32 0x3C010204#32 ((1 / 127 : ℝ) : EReal)

def algebraic_KernelIdeal_ReferenceIdeal_pre_exact_range [hKernelIdeal : Cert.KernelIdeal.Facts] [hReferenceIdeal : Cert.ReferenceIdeal.Facts] [hPre_exact_range : Cert.Pre_exact_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_exact_range : Cert.Pre_exact_range.Facts),
    quiescent_Kernel (hKernel := hKernel)
    ∧ quiescent_KernelIdeal (hKernelIdeal := hKernelIdeal)
    ∧ quiescent_KernelIdeal_pre_exact_range (hKernelIdeal := hKernelIdeal) (hPre_exact_range := hPre_exact_range)
    ∧ quiescent_ReferenceIdeal (hReferenceIdeal := hReferenceIdeal)
    ∧ quiescent_ReferenceIdeal_pre_exact_range (hReferenceIdeal := hReferenceIdeal) (hPre_exact_range := hPre_exact_range)
    ∧ preserves_Kernel_KernelIdeal
    ∧ algebraic_KernelIdeal_ReferenceIdeal_pre_exact_range (hKernelIdeal := hKernelIdeal) (hReferenceIdeal := hReferenceIdeal) (hPre_exact_range := hPre_exact_range)
-- ==== Pre_exact_range.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S10000x10000 : S_.BroadcastsInDim S10000x10000 (![] : Fin 0 → Fin S10000x10000.rank)
  reducesTo_S10000x128_S128_d0 : S10000x128.ReducesTo [0] S128
  h_S_ : 0 < S_.numel
  bcast_S_S1x128 : S_.BroadcastsInDim S1x128 (![] : Fin 0 → Fin S1x128.rank)
  reducesTo_S10000x10000_S_d0_1 : S10000x10000.ReducesTo [0, 1] S_
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x128 .f32) : FVec F S10000x128 .f32 :=
  let v0 : FVec F S10000x128 .f32 := Host.roundeven arg0
  v0

def fn_clip_1 {F : FTy → Type} [FloatOps F] (arg0 : FVec F S10000x128 .f32) (arg1 : FVec F S_ .f32) (arg2 : FVec F S_ .f32) : FVec F S10000x128 .f32 :=
  let v0 : FVec F S_ .f32 := id arg1
  let v1 : FVec F S10000x128 .f32 := broadcastInDim S10000x128 ![] bcast_S_S10000x128 v0
  let v2 : FVec F S10000x128 .f32 := maximumf v1 arg0
  let v3 : FVec F S_ .f32 := id arg2
  let v4 : FVec F S10000x128 .f32 := broadcastInDim S10000x128 ![] bcast_S_S10000x128 v3
  let v5 : FVec F S10000x128 .f32 := minimumf v4 v2
  v5

def fn_part2 {F : FTy → Type} [FloatOps F] (main_v24 : FVec F S10000x128 .f32) (main_v33 : IVec S_ 1) (main_v34 : FVec F S128x128 .f32) (main_cst_10 : FVec F S_ .f32) : IVec S_ 1 :=
  let main_v35 : FVec F S128x128 .f32 := broadcastInDim S128x128 ![] bcast_S_S128x128 main_cst_10
  let main_v36 : IVec S128x128 1 := cmpf .olt main_v34 main_v35
  let main_c_11 : IVec S_ 1 := constantI S_ 1 1#1
  let main_v37 : IVec S_ 1 := (fun x v => Host.reduce IntOp.andi x v reducesTo_S128x128_S_d0_1 h_S_) main_v36 main_c_11
  let main_v38 : IVec S_ 1 := andi main_v33 main_v37
  let main_cst_12 : FVec F S_ .f32 := constant S_ .f32 0x4C800000#32
  let main_v39 : FVec F S10000x128 .f32 := broadcastInDim S10000x128 ![] bcast_S_S10000x128 main_cst_12
  let main_v40 : IVec S10000x128 1 := cmpf .ole main_v24 main_v39
  let main_c_13 : IVec S_ 1 := constantI S_ 1 1#1
  let main_v41 : IVec S_ 1 := (fun x v => Host.reduce IntOp.andi x v reducesTo_S10000x128_S_d0_1 h_S_) main_v40 main_c_13
  let main_v42 : IVec S_ 1 := andi main_v38 main_v41
  main_v42

def fn_part1 {F : FTy → Type} [FloatOps F] (main_arg0 : FVec F S10000x10000 .f32) (main_arg1 : FVec F S10000x128 .f32) (main_arg2 : FVec F S128x128 .f32) (main_v6 : FVec F S10000x128 .f32) (main_v10 : FVec F S10000x10000 .f32) (main_v17 : FVec F S1x128 .f32) : IVec S_ 1 :=
  let main_v18 : FVec F S10000x128 .f32 := broadcastInDim S10000x128 ![0, 1] bcast_S1x128_S10000x128_0_1 main_v17
  let main_v19 : FVec F S10000x128 .f32 := Host.divf main_v6 main_v18
  let main_v20 : FVec F S10000x128 .f32 := fn_round_0 (F := F) main_v19
  let main_cst_5 : FVec F S_ .f32 := constant S_ .f32 0xC3000000#32
  let main_cst_6 : FVec F S_ .f32 := constant S_ .f32 0x42FE0000#32
  let main_v21 : FVec F S10000x128 .f32 := fn_clip_1 (F := F) main_v20 main_cst_5 main_cst_6
  let main_v22 : FVec F S10000x10000 .f32 := Host.absf main_v10
  let main_v23 : FVec F S10000x128 .f32 := Host.absf main_v21
  let main_v24 : FVec F S10000x128 .f32 := (fun l r => Host.dotGeneral dot_S10000x10000_S10000x128_S10000x128_1_0_0_1_n_n none l r) main_v22 main_v23
  let main_v25 : FVec F S10000x10000 .f32 := Host.absf main_arg0
  let main_cst_7 : FVec F S_ .f32 := constant S_ .f32 0x7F800000#32
  let main_v26 : FVec F S10000x10000 .f32 := broadcastInDim S10000x10000 ![] bcast_S_S10000x10000 main_cst_7
  let main_v27 : IVec S10000x10000 1 := cmpf .olt main_v25 main_v26
  let main_c : IVec S_ 1 := constantI S_ 1 1#1
  let main_v28 : IVec S_ 1 := (fun x v => Host.reduce IntOp.andi x v reducesTo_S10000x10000_S_d0_1 h_S_) main_v27 main_c
  let main_v29 : FVec F S10000x128 .f32 := Host.absf main_arg1
  let main_cst_8 : FVec F S_ .f32 := constant S_ .f32 0x7F800000#32
  let main_v30 : FVec F S10000x128 .f32 := broadcastInDim S10000x128 ![] bcast_S_S10000x128 main_cst_8
  let main_v31 : IVec S10000x128 1 := cmpf .olt main_v29 main_v30
  let main_c_9 : IVec S_ 1 := constantI S_ 1 1#1
  let main_v32 : IVec S_ 1 := (fun x v => Host.reduce IntOp.andi x v reducesTo_S10000x128_S_d0_1 h_S_) main_v31 main_c_9
  let main_v33 : IVec S_ 1 := andi main_v28 main_v32
  let main_v34 : FVec F S128x128 .f32 := Host.absf main_arg2
  let main_cst_10 : FVec F S_ .f32 := constant S_ .f32 0x7F800000#32
  fn_part2 (F := F) main_v24 main_v33 main_v34 main_cst_10

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x128 .f32 := (fun l r => Host.dotGeneral dot_S10000x128_S128x128_S10000x128_1_0_0_1_n_n none l r) main_arg1 main_arg2
  let main_v1 : FVec F S10000x128 .f32 := (fun l r => Host.dotGeneral dot_S10000x10000_S10000x128_S10000x128_1_0_0_1_n_n none l r) main_arg0 main_v0
  let main_v2 : FVec F S1x128 .f32 := broadcastInDim S1x128 ![1] bcast_S128_S1x128_1 main_arg3
  let main_v3 : FVec F S10000x128 .f32 := broadcastInDim S10000x128 ![0, 1] bcast_S1x128_S10000x128_0_1 main_v2
  let main_v4 : FVec F S10000x128 .f32 := addf main_v1 main_v3
  let main_v5 : FVec F S10000x128 .f32 := fn_relu (F := F) main_v4
  let main_v6 : FVec F S10000x128 .f32 := (fun l r => Host.dotGeneral dot_S10000x128_S128x128_S10000x128_1_0_0_1_n_n none l r) main_v5 main_arg4
  let main_cst : FVec F S_ .f32 := constant S_ .f32 0x42FE0000#32
  let main_v7 : FVec F S10000x10000 .f32 := broadcastInDim S10000x10000 ![] bcast_S_S10000x10000 main_cst
  let main_v8 : FVec F S10000x10000 .f32 := mulf main_arg0 main_v7
  let main_v9 : FVec F S10000x10000 .f32 := fn_round (F := F) main_v8
  let main_cst_0 : FVec F S_ .f32 := constant S_ .f32 0xC3000000#32
  let main_cst_1 : FVec F S_ .f32 := constant S_ .f32 0x42FE0000#32
  let main_v10 : FVec F S10000x10000 .f32 := fn_clip (F := F) main_v9 main_cst_0 main_cst_1
  let main_v11 : FVec F S10000x128 .f32 := Host.absf main_v6
  let main_cst_2 : FVec F S_ .f32 := constant S_ .f32 0xFF800000#32
  let main_v12 : FVec F S128 .f32 := (fun x v => Host.reduce FloatOps.maximumf x v reducesTo_S10000x128_S128_d0 h_S_) main_v11 main_cst_2
  let main_v13 : FVec F S1x128 .f32 := broadcastInDim S1x128 ![1] bcast_S128_S1x128_1 main_v12
  let main_cst_3 : FVec F S_ .f32 := constant S_ .f32 0x0DA24260#32
  let main_v14 : FVec F S1x128 .f32 := broadcastInDim S1x128 ![] bcast_S_S1x128 main_cst_3
  let main_v15 : FVec F S1x128 .f32 := maximumf main_v13 main_v14
  let main_cst_4 : FVec F S_ .f32 := constant S_ .f32 0x42FE0000#32
  let main_v16 : FVec F S1x128 .f32 := broadcastInDim S1x128 ![] bcast_S_S1x128 main_cst_4
  let main_v17 : FVec F S1x128 .f32 := Host.divf main_v15 main_v16
  fn_part1 (F := F) main_arg0 main_arg1 main_arg2 main_v6 main_v10 main_v17
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 13
  | .vmem => 20
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .f32⟩
  | .hbm, ⟨8, _⟩ => ⟨S10000x10000, .i8⟩
  | .hbm, ⟨9, _⟩ => ⟨S10000x128, .i8⟩
  | .hbm, ⟨10, _⟩ => ⟨S1x128, .f32⟩
  | .hbm, ⟨11, _⟩ => ⟨S1x128, .f32⟩
  | .hbm, ⟨12, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S200x128, .f32⟩
  | .local _ .vmem, ⟨7, _⟩ => ⟨S200x128, .f32⟩
  | .local _ .vmem, ⟨8, _⟩ => ⟨S200x10000, .i8⟩
  | .local _ .vmem, ⟨9, _⟩ => ⟨S200x10000, .i8⟩
  | .local _ .vmem, ⟨10, _⟩ => ⟨S10000x128, .f32⟩
  | .local _ .vmem, ⟨11, _⟩ => ⟨S10000x128, .i8⟩
  | .local _ .vmem, ⟨12, _⟩ => ⟨S1x128, .f32⟩
  | .local _ .vmem, ⟨13, _⟩ => ⟨S200x10000, .i8⟩
  | .local _ .vmem, ⟨14, _⟩ => ⟨S200x10000, .i8⟩
  | .local _ .vmem, ⟨15, _⟩ => ⟨S10000x128, .i8⟩
  | .local _ .vmem, ⟨16, _⟩ => ⟨S1x128, .f32⟩
  | .local _ .vmem, ⟨17, _⟩ => ⟨S1x128, .f32⟩
  | .local _ .vmem, ⟨18, _⟩ => ⟨S200x128, .f32⟩
  | .local _ .vmem, ⟨19, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_call0_v1_1 : Ref sig .tc := ⟨.hbm, 8, rfl⟩
abbrev main_call0_v2_0 : Ref sig .tc := ⟨.hbm, 9, rfl⟩
abbrev main_call0_v2_1 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v5e

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "inv127" => some ((1 / 127 : ℝ) : EReal)
  | _ => none
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S10000x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S10000x10000, .f32⟩
  | .hbm, ⟨50, _⟩ => ⟨S10000x10000, .f32⟩
  | .hbm, ⟨51, _⟩ => ⟨S10000x128, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_cst_1 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_cst_6 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v21 : Ref sig .tc := ⟨.hbm, 47, rfl⟩
abbrev main_cst_7 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v5e

variable {F : FTy → Type} [FloatOps F]
-- ==== Proof.Run.lean ====
/- The kernel's run with its result read: every execution ends with `main_v0` at the contents the third pass leaves and the
   arguments as launched. The launch set-up is the frame's; the final state is read at the result array as well. -/
module

public import proofs.«01_k».proof.Proof.Gen.KernelIdeal.Frame

@[expose] public section

noncomputable section

namespace Cert.Proof.Run

open Cert.KernelIdeal Cert.KernelIdeal.Gen Idealize.ShloMosaic Idealize.ShloMosaic.TcCoe Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution ends, and ends with the result array at what the third
    pass's write-backs leave and every argument array as launched. -/
theorem run : θ_run defs (onTc (τ := τ) (main (F := F))) ⟨m, fun _ => 0, ρ⟩ (fun r => ∀ c : Dev nD,
      r.2.mem ((c.tc : Thread nD τ).loc main_v0) = (dat2 (V4 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v0 (by decide))).trans (W5_arr m ρ c 4),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Proof.Run

end
-- ==== Proof.Geometry.lean ====
/- Where the blocks lie: block `t` of a 200-row window holds rows 200 t to 200 t + 199 of its array, at every column; the other
   windows hold their whole arrays at every point. -/
module

public import proofs.«01_k».proof.Proof.Gen.KernelIdeal.Frame
public import Idealize.ShloMosaic.Lib.Pipeline.Value
public import Idealize.ShloMosaic.Lib.ValueIdx

@[expose] public section

noncomputable section

namespace Cert.Proof.Geometry

open Cert.KernelIdeal Cert.KernelIdeal.Gen Idealize.ShloMosaic Idealize.ShloMosaic.TcCoe Idealize.ShloMosaic.ValueIdx Idealize.SL.Sem
open Idealize.ShloMosaic.Pipeline (Dat Window)

/-! ## Block indices -/

theorem idx0_0 : ∀ t : Fin cfg0.N, (win0_0.index t 0 = t.val ∧ win0_0.index t 1 = 0) := by decide +kernel
theorem idx0_1 : ∀ t : Fin cfg0.N, ∀ a, win0_1.index t a = 0 := by decide +kernel
theorem idx0_2 : ∀ t : Fin cfg0.N, ∀ a, win0_2.index t a = 0 := by decide +kernel
theorem idx0_3 : ∀ t : Fin cfg0.N, ∀ a, win0_3.index t a = 0 := by decide +kernel
theorem idx0_4 : ∀ t : Fin cfg0.N, ∀ a, win0_4.index t a = 0 := by decide +kernel
theorem idx0_5 : ∀ t : Fin cfg0.N, (win0_5.index t 0 = t.val ∧ win0_5.index t 1 = 0) := by decide +kernel
theorem idx0_6 : ∀ t : Fin cfg0.N, (win0_6.index t 0 = t.val ∧ win0_6.index t 1 = 0) := by decide +kernel
theorem idx1_0 : ∀ t : Fin cfg1.N, ∀ a, win1_0.index t a = 0 := by decide +kernel
theorem idx1_1 : ∀ t : Fin cfg1.N, ∀ a, win1_1.index t a = 0 := by decide +kernel
theorem idx1_2 : ∀ t : Fin cfg1.N, ∀ a, win1_2.index t a = 0 := by decide +kernel
theorem idx2_0 : ∀ t : Fin cfg2.N, (win2_0.index t 0 = t.val ∧ win2_0.index t 1 = 0) := by decide +kernel
theorem idx2_1 : ∀ t : Fin cfg2.N, ∀ a, win2_1.index t a = 0 := by decide +kernel
theorem idx2_2 : ∀ t : Fin cfg2.N, ∀ a, win2_2.index t a = 0 := by decide +kernel
theorem idx2_3 : ∀ t : Fin cfg2.N, ∀ a, win2_3.index t a = 0 := by decide +kernel
theorem idx2_4 : ∀ t : Fin cfg2.N, (win2_4.index t 0 = t.val ∧ win2_4.index t 1 = 0) := by decide +kernel

/-- Row `r` of block `t`, as a row of the array. -/
def row {N : ℕ} (hN : N = 50) (t : Fin N) (r : Fin 200) : Fin 10000 := ⟨t.val * 200 + r.val, by have := t.isLt; have := r.isLt; omega⟩

theorem n0 : cfg0.N = 50 := N_0
theorem n2 : cfg2.N = 50 := N_2

/-! ## Where an element of a block lies in its array -/

theorem emb0_0 (t : Fin cfg0.N) (r : Fin 200) (k : Fin 10000) : (win0_0.rect t).emb (ix2 r k) = ix2 (row n0 t r) k := by
  funext a; apply Fin.ext
  match a with
  | ⟨0, _⟩ => exact (Window.rect_emb_val win0_0 t (ix2 r k) 0).trans (congrArg (· * 200 + r.val) (idx0_0 t).1)
  | ⟨1, _⟩ => exact Window.rect_emb_val_of_index_zero win0_0 t 1 (idx0_0 t).2 (ix2 r k)
theorem emb0_1 (t : Fin cfg0.N) (y : S10000x128.Idx) : (win0_1.rect t).emb y = y := by
  funext a; apply Fin.ext
  exact Window.rect_emb_val_of_index_zero win0_1 t a (idx0_1 t a) y
theorem emb0_2 (t : Fin cfg0.N) (y : S128x128.Idx) : (win0_2.rect t).emb y = y := by
  funext a; apply Fin.ext
  exact Window.rect_emb_val_of_index_zero win0_2 t a (idx0_2 t a) y
theorem emb0_3 (t : Fin cfg0.N) (y : S1x128.Idx) : (win0_3.rect t).emb y = y := by
  funext a; apply Fin.ext
  exact Window.rect_emb_val_of_index_zero win0_3 t a (idx0_3 t a) y
theorem emb0_4 (t : Fin cfg0.N) (y : S128x128.Idx) : (win0_4.rect t).emb y = y := by
  funext a; apply Fin.ext
  exact Window.rect_emb_val_of_index_zero win0_4 t a (idx0_4 t a) y
theorem emb0_5 (t : Fin cfg0.N) (r : Fin 200) (k : Fin 128) : (win0_5.rect t).emb (ix2 r k) = ix2 (row n0 t r) k := by
  funext a; apply Fin.ext
  match a with
  | ⟨0, _⟩ => exact (Window.rect_emb_val win0_5 t (ix2 r k) 0).trans (congrArg (· * 200 + r.val) (idx0_5 t).1)
  | ⟨1, _⟩ => exact Window.rect_emb_val_of_index_zero win0_5 t 1 (idx0_5 t).2 (ix2 r k)
theorem emb0_6 (t : Fin cfg0.N) (r : Fin 200) (k : Fin 10000) : (win0_6.rect t).emb (ix2 r k) = ix2 (row n0 t r) k := by
  funext a; apply Fin.ext
  match a with
  | ⟨0, _⟩ => exact (Window.rect_emb_val win0_6 t (ix2 r k) 0).trans (congrArg (· * 200 + r.val) (idx0_6 t).1)
  | ⟨1, _⟩ => exact Window.rect_emb_val_of_index_zero win0_6 t 1 (idx0_6 t).2 (ix2 r k)
theorem emb1_0 (t : Fin cfg1.N) (y : S10000x128.Idx) : (win1_0.rect t).emb y = y := by
  funext a; apply Fin.ext
  exact Window.rect_emb_val_of_index_zero win1_0 t a (idx1_0 t a) y
theorem emb1_1 (t : Fin cfg1.N) (y : S10000x128.Idx) : (win1_1.rect t).emb y = y := by
  funext a; apply Fin.ext
  exact Window.rect_emb_val_of_index_zero win1_1 t a (idx1_1 t a) y
theorem emb1_2 (t : Fin cfg1.N) (y : S1x128.Idx) : (win1_2.rect t).emb y = y := by
  funext a; apply Fin.ext
  exact Window.rect_emb_val_of_index_zero win1_2 t a (idx1_2 t a) y
theorem emb2_0 (t : Fin cfg2.N) (r : Fin 200) (k : Fin 10000) : (win2_0.rect t).emb (ix2 r k) = ix2 (row n2 t r) k := by
  funext a; apply Fin.ext
  match a with
  | ⟨0, _⟩ => exact (Window.rect_emb_val win2_0 t (ix2 r k) 0).trans (congrArg (· * 200 + r.val) (idx2_0 t).1)
  | ⟨1, _⟩ => exact Window.rect_emb_val_of_index_zero win2_0 t 1 (idx2_0 t).2 (ix2 r k)
theorem emb2_1 (t : Fin cfg2.N) (y : S10000x128.Idx) : (win2_1.rect t).emb y = y := by
  funext a; apply Fin.ext
  exact Window.rect_emb_val_of_index_zero win2_1 t a (idx2_1 t a) y
theorem emb2_2 (t : Fin cfg2.N) (y : S1x128.Idx) : (win2_2.rect t).emb y = y := by
  funext a; apply Fin.ext
  exact Window.rect_emb_val_of_index_zero win2_2 t a (idx2_2 t a) y
theorem emb2_3 (t : Fin cfg2.N) (y : S1x128.Idx) : (win2_3.rect t).emb y = y := by
  funext a; apply Fin.ext
  exact Window.rect_emb_val_of_index_zero win2_3 t a (idx2_3 t a) y
theorem emb2_4 (t : Fin cfg2.N) (r : Fin 200) (k : Fin 128) : (win2_4.rect t).emb (ix2 r k) = ix2 (row n2 t r) k := by
  funext a; apply Fin.ext
  match a with
  | ⟨0, _⟩ => exact (Window.rect_emb_val win2_4 t (ix2 r k) 0).trans (congrArg (· * 200 + r.val) (idx2_4 t).1)
  | ⟨1, _⟩ => exact Window.rect_emb_val_of_index_zero win2_4 t 1 (idx2_4 t).2 (ix2 r k)

/-! ## The blocks of each output fill its array -/

/-- Every row of the array is a row of a block. -/
theorem exists_row {N : ℕ} (hN : N = 50) (i : Fin 10000) : ∃ (t : Fin N) (r : Fin 200), row hN t r = i := by
  have := i.isLt
  refine ⟨⟨i.val / 200, by omega⟩, ⟨i.val % 200, by omega⟩, Fin.ext ?_⟩
  show i.val / 200 * 200 + i.val % 200 = i.val
  omega

theorem cover0_5 (i : S10000x128.Idx) : ∃ t : Fin cfg0.N, (cfg0.win 5).flush t = true ∧ i ∈ ((cfg0.win 5).blk t).view.set := by
  obtain ⟨t, r, hr⟩ := exists_row n0 (i 0)
  refine ⟨t, flush0_5 t, ?_⟩
  have e : ((cfg0.win 5).blk t).view.emb (ix2 r (i 1)) = i := by
    refine (emb0_5 t r (i 1)).trans ?_
    rw [hr]; exact (eq_ix2 i).symm
  exact e ▸ View.emb_mem_set _ _
theorem cover0_6 (i : S10000x10000.Idx) : ∃ t : Fin cfg0.N, (cfg0.win 6).flush t = true ∧ i ∈ ((cfg0.win 6).blk t).view.set := by
  obtain ⟨t, r, hr⟩ := exists_row n0 (i 0)
  refine ⟨t, flush0_6 t, ?_⟩
  have e : ((cfg0.win 6).blk t).view.emb (ix2 r (i 1)) = i := by
    refine (emb0_6 t r (i 1)).trans ?_
    rw [hr]; exact (eq_ix2 i).symm
  exact e ▸ View.emb_mem_set _ _
theorem cover1_1 (i : S10000x128.Idx) : ∃ t : Fin cfg1.N, (cfg1.win 1).flush t = true ∧ i ∈ ((cfg1.win 1).blk t).view.set := by
  refine ⟨t1_0, flush1_1 t1_0, ?_⟩
  have e : ((cfg1.win 1).blk t1_0).view.emb i = i := emb1_1 t1_0 i
  exact e ▸ View.emb_mem_set _ _
theorem cover1_2 (i : S1x128.Idx) : ∃ t : Fin cfg1.N, (cfg1.win 2).flush t = true ∧ i ∈ ((cfg1.win 2).blk t).view.set := by
  refine ⟨t1_0, flush1_2 t1_0, ?_⟩
  have e : ((cfg1.win 2).blk t1_0).view.emb i = i := emb1_2 t1_0 i
  exact e ▸ View.emb_mem_set _ _
theorem cover2_4 (i : S10000x128.Idx) : ∃ t : Fin cfg2.N, (cfg2.win 4).flush t = true ∧ i ∈ ((cfg2.win 4).blk t).view.set := by
  obtain ⟨t, r, hr⟩ := exists_row n2 (i 0)
  refine ⟨t, flush2_4 t, ?_⟩
  have e : ((cfg2.win 4).blk t).view.emb (ix2 r (i 1)) = i := by
    refine (emb2_4 t r (i 1)).trans ?_
    rw [hr]; exact (eq_ix2 i).symm
  exact e ▸ View.emb_mem_set _ _

end Cert.Proof.Geometry

end
-- ==== Proof.Math.lean ====
/- The mathematics of the claim over the extended reals, with the extents as variables: the int8 code of a value, the reordered
   first layer, the exact integer product, and the second layer's scale taken out of the sum. Nothing here mentions a program. -/
module

public import Idealize.ShloMosaic.PureOps.Ideal.Laws
public import Idealize.ShloMosaic.Lib.IntMxu

@[expose] public section

noncomputable section

namespace Cert.Proof.Math

open Idealize.ShloMosaic
open scoped BigOperators

/-- The larger of two reals, read among the extended reals. -/
theorem coe_max (a b : ℝ) : ((max a b : ℝ) : EReal) = max (a : EReal) b := EReal.coe_strictMono.monotone.map_max
/-- The smaller of two reals, read among the extended reals. -/
theorem coe_min (a b : ℝ) : ((min a b : ℝ) : EReal) = min (a : EReal) b := EReal.coe_strictMono.monotone.map_min

/-! ## The int8 code of a value -/

/-- To the nearest integer, ties to even; an infinity stays. -/
abbrev rnd : EReal → EReal := Ideal.liftRound Ideal.roundHalfEven

/-- The code as a number: rounded, then held in [-128, 127]. -/
def clip (x : EReal) : EReal := min 127 (max (-128) (rnd x))

/-- The code as the 8-bit word the conversion to int8 makes of the rounded value. -/
def word (x : EReal) : BitVec 8 := Ideal.fptosi 8 (rnd x)

/-- The integer a rounded real is held at. -/
theorem word_coe_toInt (r : ℝ) : (word (r : EReal)).toInt = max (-128) (min 127 (Ideal.roundHalfEven r)) := by
  have h : word (r : EReal) = BitVec.ofInt 8 (max (-128) (min 127 (Ideal.roundHalfEven r))) := by
    show Ideal.fptosi 8 (((Ideal.roundHalfEven r : ℤ) : ℝ) : EReal) = _
    unfold Ideal.fptosi
    rw [Ideal.toIntClamped_coe]
    simp
  rw [h, BitVec.toInt_ofInt]
  generalize Ideal.roundHalfEven r = z
  have : -128 ≤ max (-128) (min 127 z) := le_max_left _ _
  have : max (-128) (min 127 z) ≤ 127 := max_le (by norm_num) (min_le_left _ _)
  rw [Int.bmod_def]
  omega

/-- The word's value is the code: converting a rounded value to int8 holds it in [-128, 127]. -/
theorem word_toInt (x : EReal) : (((word x).toInt : ℝ) : EReal) = clip x := by
  induction x with
  | bot =>
    have h : (word ⊥).toInt = -128 := by
      show (BitVec.ofInt 8 (Ideal.toIntClamped _ _ ⊥)).toInt = _
      rw [Ideal.toIntClamped_bot]; decide
    rw [h]
    show _ = min (127 : EReal) (max (-128) ⊥)
    have h1 : ((127 : ℝ) : EReal) = 127 := rfl
    have h2 : ((-128 : ℝ) : EReal) = -128 := rfl
    rw [max_eq_left bot_le, ← h1, ← h2, ← coe_min]
    norm_num
  | top =>
    have h : (word ⊤).toInt = 127 := by
      show (BitVec.ofInt 8 (Ideal.toIntClamped _ _ ⊤)).toInt = _
      rw [Ideal.toIntClamped_top]; decide
    rw [h]
    show _ = min (127 : EReal) (max (-128) ⊤)
    rw [max_eq_right le_top, min_eq_left le_top]
    norm_num
    rfl
  | coe r =>
    rw [word_coe_toInt]
    show _ = min (127 : EReal) (max (-128) (((Ideal.roundHalfEven r : ℤ) : ℝ) : EReal))
    generalize Ideal.roundHalfEven r = z
    have e : max (-128) (min 127 z) = min 127 (max (-128) z) := by omega
    rw [e]
    have h1 : ((127 : ℝ) : EReal) = 127 := rfl
    have h2 : ((-128 : ℝ) : EReal) = -128 := rfl
    rw [← h1, ← h2, ← coe_max, ← coe_min]
    push_cast
    rfl

/-- The code of 0 is 0. -/
theorem word_zero : word 0 = 0#8 := by
  have h : (word ((0 : ℝ) : EReal)).toInt = 0 := by
    rw [word_coe_toInt]
    have : Ideal.roundHalfEven 0 = 0 := by simp [Ideal.roundHalfEven]
    rw [this]; norm_num
  rw [show (0 : EReal) = ((0 : ℝ) : EReal) from rfl]
  exact BitVec.eq_of_toInt_eq (by rw [h]; rfl)

/-! ## Division by 127 -/

/-- Dividing by 127 is multiplying by the real 1/127. -/
theorem div_127 (x : EReal) : Ideal.div x 127 = x * ((1 / 127 : ℝ) : EReal) := by
  rw [show (127 : EReal) = ((127 : ℝ) : EReal) from rfl]
  exact Ideal.div_coe (by norm_num) x

/-- Multiplying by a reciprocal is dividing, when the divisor is not 0. -/
theorem mul_div_one {y : EReal} (h : y ≠ 0) (x : EReal) : x * Ideal.div 1 y = Ideal.div x y := by
  unfold Ideal.div
  rw [if_neg h, if_neg h, one_mul]

/-! ## The first layer -/

section Layer1
variable {n f h c : ℕ}

/-- The hidden layer as the reference groups it: relu (S (X W1) + b1). -/
def hidden (S : Fin n → Fin n → EReal) (X : Fin n → Fin f → EReal) (W : Fin f → Fin h → EReal) (b : Fin h → EReal)
    (i : Fin n) (l : Fin h) : EReal :=
  max ((∑ k, S i k * ∑ m, X k m * W m l) + b l) 0

/-- The hidden layer as the kernel groups it: relu ((S X) W1 + b1). -/
def hidden' {r : ℕ} (S : Fin r → Fin n → EReal) (X : Fin n → Fin f → EReal) (W : Fin f → Fin h → EReal) (b : Fin h → EReal)
    (i : Fin r) (l : Fin h) : EReal :=
  max ((∑ m, (∑ k, S i k * X k m) * W m l) + b l) 0

/-- A matrix times W2. -/
def mix {r : ℕ} (H : Fin r → Fin h → EReal) (W : Fin h → Fin c → EReal) (i : Fin r) (j : Fin c) : EReal := ∑ l, H i l * W l j

/-- A finite sum of reals, read among the extended reals. -/
theorem coe_sum {ι : Type*} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, EReal.coe_add, ih]

/-- A product of three finite matrices may be grouped either way. -/
theorem assoc (u : Fin n → EReal) (X : Fin n → Fin f → EReal) (w : Fin f → EReal)
    (hu : ∀ k, ∃ r : ℝ, u k = r) (hX : ∀ k m, ∃ r : ℝ, X k m = r) (hw : ∀ m, ∃ r : ℝ, w m = r) :
    ∑ m, (∑ k, u k * X k m) * w m = ∑ k, u k * ∑ m, X k m * w m := by
  choose u' hu using hu
  choose X' hX using hX
  choose w' hw using hw
  simp only [hu, hX, hw, ← EReal.coe_mul, ← coe_sum]
  congr 1
  simp only [Finset.sum_mul, Finset.mul_sum]
  rw [Finset.sum_comm]
  exact Finset.sum_congr rfl fun k _ => Finset.sum_congr rfl fun m _ => by ring

/-- With finite factors the two groupings give one hidden layer. -/
theorem hidden'_eq (S : Fin n → Fin n → EReal) (X : Fin n → Fin f → EReal) (W : Fin f → Fin h → EReal) (b : Fin h → EReal)
    (hS : ∀ i k, ∃ r : ℝ, S i k = r) (hX : ∀ k m, ∃ r : ℝ, X k m = r) (hW : ∀ m l, ∃ r : ℝ, W m l = r) :
    hidden' S X W b = hidden S X W b := by
  funext i l
  unfold hidden' hidden
  rw [assoc (S i) X (fun m => W m l) (hS i) hX (fun m => hW m l)]

end Layer1

/-! ## The second layer -/

section Layer2
variable {n c : ℕ}

/-- The largest magnitude in column `j`, at least `tiny`. -/
def peak (tiny : EReal) (B : Fin n → Fin c → EReal) (j : Fin c) : EReal :=
  max ((Finset.univ : Finset (Fin n)).fold max ⊥ fun i => max (B i j) (-(B i j))) tiny

/-- The grid step of column `j`. -/
def step (tiny : EReal) (B : Fin n → Fin c → EReal) (j : Fin c) : EReal := peak tiny B j * ((1 / 127 : ℝ) : EReal)

/-- The step is positive when the floor under the peak is. -/
theorem step_pos {tiny : EReal} (ht : 0 < tiny) (B : Fin n → Fin c → EReal) (j : Fin c) : 0 < step tiny B j := by
  have hp : 0 < peak tiny B j := lt_of_lt_of_le ht (le_max_right _ _)
  exact EReal.mul_pos hp (by exact_mod_cast (by norm_num : (0 : ℝ) < 1 / 127))

/-- A value on the grid of its column: the quotient by the step. -/
def grid (tiny : EReal) (B : Fin n → Fin c → EReal) (k : Fin n) (j : Fin c) : EReal := Ideal.div (B k j) (step tiny B j)

/-- When the step is infinite every quotient by it is 0. -/
theorem grid_top {tiny : EReal} (B : Fin n → Fin c → EReal) (k : Fin n) (j : Fin c) (h : step tiny B j = ⊤) : grid tiny B k j = 0 := by
  unfold grid Ideal.div
  rw [h, if_neg (by simp), EReal.inv_top, mul_zero]

/-- The magnitude of a product of codes, as the reference's language states it. -/
def mag (x : EReal) : EReal := max x (-x)

/-- The magnitude of an integer read among the extended reals. -/
theorem mag_int (z : ℤ) : mag (((z : ℝ)) : EReal) = ((z.natAbs : ℝ) : EReal) := by
  unfold mag
  rw [← EReal.coe_neg, ← coe_max, Nat.cast_natAbs, Int.cast_abs]
  rfl

/-- A bound on the total of magnitudes of the codes' products, stated over extended reals, is one over naturals. -/
theorem total_le (s b : Fin n → EReal) (N : ℕ)
    (h : ∑ k, mag (clip (s k)) * mag (clip (b k)) ≤ ((N : ℝ) : EReal)) :
    ∑ k, ((word (s k)).toInt * (word (b k)).toInt).natAbs ≤ N := by
  have e : ∑ k, mag (clip (s k)) * mag (clip (b k))
      = (((∑ k, ((word (s k)).toInt * (word (b k)).toInt).natAbs : ℕ) : ℝ) : EReal) := by
    rw [Nat.cast_sum, coe_sum]
    refine Finset.sum_congr rfl fun k _ => ?_
    rw [← word_toInt, ← word_toInt, mag_int, mag_int, ← EReal.coe_mul, Int.natAbs_mul, Nat.cast_mul]
  rw [e] at h
  exact_mod_cast h

/-- The scale comes out of the sum: the integer dot product of the codes times step/127 is the sum of the products of the
    values the codes stand for. An infinite step asks every right code to be 0. -/
theorem scale_out (s b : Fin n → EReal) (p : EReal) (hp : 0 < p) (h0 : p = ⊤ → ∀ k, b k = 0) :
    (((∑ k, (word (s k)).toInt * (word (b k)).toInt : ℤ) : ℝ) : EReal) * (p * ((1 / 127 : ℝ) : EReal))
      = ∑ k, Ideal.div (clip (s k)) 127 * (clip (b k) * p) := by
  simp only [← word_toInt, div_127]
  induction p with
  | bot => exact absurd hp (by simp)
  | top =>
    have hb : ∀ k, (word (b k)).toInt = 0 := fun k => by rw [h0 rfl k, word_zero]; rfl
    simp [hb]
  | coe r =>
    simp only [← EReal.coe_mul, ← coe_sum]
    congr 1
    push_cast
    rw [Finset.sum_mul]
    exact Finset.sum_congr rfl fun k _ => by ring

end Layer2

end Cert.Proof.Math

end
-- ==== Proof.Blocks.lean ====
/- What one block of each of the kernel's three passes computes, read at an index over the extended reals: pass 1's int8 codes
   of a block of rows of S and the same rows of B = relu ((S X) W1 + b1) W2; the requantizing pass's codes of B and scales; and
   pass 2's rows of the result from the int8 product. -/
module

public import proofs.«01_k».proof.Proof.Gen.KernelIdeal.Skeleton
public import proofs.«01_k».proof.Proof.Math
public import Idealize.ShloMosaic.Lib.Pipeline.Value
public import Idealize.ShloMosaic.Lib.ValueIdx
public import Idealize.ShloMosaic.Lib.ValueLayoutCasts
public import Idealize.ShloMosaic.Lib.MatmulPlain
public import Idealize.ShloMosaic.PureOps.IdealRules
public import Idealize.ShloMosaic.PureOps.Ideal.Laws

@[expose] public section

noncomputable section

namespace Cert.Proof.Blocks

open Cert.KernelIdeal Cert.KernelIdeal.Gen Idealize.ShloMosaic Idealize.ShloMosaic.ValueIdx Cert.Proof
open scoped BigOperators

/-- An array over two axes as a function of its two coordinates. -/
abbrev mat {α : Type} {a b : ℕ} (v : (⟨2, ![a, b]⟩ : Shape).Idx → α) : Fin a → Fin b → α := fun i j => v (ix2 i j)

/-! ## The programs' literals -/

/-- The floor under a column's peak: the f32 nearest 1e-30. -/
def tiny : EReal := FloatOps.ofBits (F := Ideal) .f32 0x0DA24260#32

theorem lit_127 : Ideal.ofBits .f32 0x42FE0000#32 = 127 := by
  simp [Ideal.ofBits, Ideal.ieee, -EReal.coe_mul]; norm_num; rfl
theorem lit_zero : Ideal.ofBits .f32 0x00000000#32 = 0 := by simp [Ideal.ofBits, Ideal.ieee]
theorem lit_one : Ideal.ofBits .f32 0x3F800000#32 = 1 := by
  simp [Ideal.ofBits, Ideal.ieee, -EReal.coe_mul]; norm_num
theorem lit_bot : Ideal.ofBits .f32 0xFF800000#32 = ⊥ := by simp [Ideal.ofBits, Ideal.ieee]
theorem tiny_pos : 0 < tiny := by
  have h : tiny = ((10633824 * (2 : ℝ) ^ (-123 : ℤ) : ℝ) : EReal) := by
    show Ideal.ofBits .f32 0x0DA24260#32 = _
    simp [Ideal.ofBits, Ideal.ieee, -EReal.coe_mul]
  rw [h]
  exact_mod_cast (by positivity : (0 : ℝ) < 10633824 * (2 : ℝ) ^ (-123 : ℤ))

/- The same literals as the programs' operations spell them. -/
theorem ofBits_zero : FloatOps.ofBits (F := Ideal) .f32 0x00000000#32 = (0 : EReal) := lit_zero
theorem ofBits_one : FloatOps.ofBits (F := Ideal) .f32 0x3F800000#32 = (1 : EReal) := lit_one
theorem ofBits_bot : FloatOps.ofBits (F := Ideal) .f32 0xFF800000#32 = (⊥ : EReal) := lit_bot
theorem ofBits_127 : FloatOps.ofBits (F := Ideal) .f32 0x42FE0000#32 = (127 : EReal) := lit_127
theorem ofBits_tiny : FloatOps.ofBits (F := Ideal) .f32 0x0DA24260#32 = tiny := by unfold tiny; rfl

/-- The named constant is 1/127. -/
theorem named_inv127 : Named.named (F := Ideal) κ "inv127" (φ := .f32) 0x3C010204#32 = ((1 / 127 : ℝ) : EReal) :=
  IdealRules.named_const.ideal_named_scalar _ _ _ _ rfl

/-- A magnitude. -/
theorem absf_apply {s : Shape} (x : FVec Ideal s .f32) (i : s.Idx) : absf x i = max (x i) (-(x i)) := rfl

/-! ## Products and rows, read at an index -/

/-- A block of rows of S times X. -/
theorem dot_SX (l : FVec Ideal S200x10000 .f32) (r : FVec Ideal S10000x128 .f32) (acc : FVec Ideal S200x128 .f32) (i : Fin 200) (j : Fin 128) :
    matmul dot_S200x10000_S10000x128_S200x128_1_0_0_1_n_n none l r acc (ix2 i j) = acc (ix2 i j) + ∑ k : Fin 10000, l (ix2 i k) * r (ix2 k j) :=
  Ideal.matmul_plain_apply none l r acc i j

/-- A block of rows times a 128 by 128 matrix. -/
theorem dot_W (l : FVec Ideal S200x128 .f32) (r : FVec Ideal S128x128 .f32) (acc : FVec Ideal S200x128 .f32) (i : Fin 200) (j : Fin 128) :
    matmul dot_S200x128_S128x128_S200x128_1_0_0_1_n_n none l r acc (ix2 i j) = acc (ix2 i j) + ∑ k : Fin 128, l (ix2 i k) * r (ix2 k j) :=
  Ideal.matmul_plain_apply none l r acc i j

/-- The zero accumulator. -/
theorem zero_acc (i : S200x128.Idx) : constant (F := Ideal) S200x128 .f32 0x00000000#32 i = 0 := lit_zero

/-- One row repeated down a block of 200 rows. -/
theorem row_apply (v : FVec Ideal S1x128 .f32) (i : Fin 200) (j : Fin 128) :
    broadcastTo S200x128 v broadcasts_S1x128_S200x128 (ix2 i j) = v (ix2 0 j) :=
  broadcastTo_apply v _ (ix2 i j) (ix2 0 j) (fun a => match a with
    | ⟨0, _⟩ => rfl
    | ⟨1, _⟩ => rfl)

/-- One row repeated down all 10000 rows. -/
theorem row_apply' (v : FVec Ideal S1x128 .f32) (i : Fin 10000) (j : Fin 128) :
    broadcastTo S10000x128 v broadcasts_S1x128_S10000x128 (ix2 i j) = v (ix2 0 j) :=
  broadcastTo_apply v _ (ix2 i j) (ix2 0 j) (fun a => match a with
    | ⟨0, _⟩ => rfl
    | ⟨1, _⟩ => rfl)

/-- A vector of 128 as one row. -/
theorem lane_apply (v : FVec Ideal S128 .f32) (j : Fin 128) :
    shapeCast S1x128 v shapeCasts_S128_S1x128 (ix2 0 j) = v (ix1 j) :=
  shapeCast_apply v _ (ix2 0 j) (ix1 j) (by rw [Shape.rowMajor_val_two, Shape.rowMajor_val_one]; simp)

/-! ## Pass 1 -/

/-- The stored code of an element of S: 127 times it, rounded, held in [-128, 127]. -/
theorem pass1_code (v0 : Vec Ideal S200x10000 .f32) (i : S200x10000.Idx) : k0_pay1 (F := Ideal) v0 i = Math.word (v0 i * 127) := by
  rw [← lit_127]; rfl

/-- A row of B from a row of S: relu ((S X) W1 + b1) W2. -/
theorem pass1_row (v0 : Vec Ideal S200x10000 .f32) (v6 : Vec Ideal S10000x128 .f32) (v8 : Vec Ideal S128x128 .f32)
    (v10 : Vec Ideal S1x128 .f32) (v16 : Vec Ideal S128x128 .f32) (i : Fin 200) (j : Fin 128) :
    k0_pay2 (F := Ideal) v0 v6 v8 v10 v16 (ix2 i j)
      = Math.mix (Math.hidden' (mat v0) (mat v6) (mat v8) (fun l => v10 (ix2 0 l))) (mat v16) i j := by
  unfold k0_pay2 Math.mix Math.hidden'
  simp only [dot_W, dot_SX, zero_acc, zero_add, maximumf_apply, addf_apply, broadcast_apply, row_apply, shapeCast_self, ofBits_zero]

/-! ## Requantizing B -/

/-- The maximum down a column, at any extents. -/
theorem col_max {n c : ℕ} (x : FVec Ideal ⟨2, ![n, c]⟩ .f32) (h : (⟨2, ![n, c]⟩ : Shape).Reduces [0] ⟨1, ![c]⟩) (hφ : FKind.Formats .f32)
    (ha : (0xFF800000#32 : BitVec FTy.f32.bits) = FKind.maximumf.neutral .f32 hφ) (j : Fin c) :
    multiReduction .maximumf [0] ⟨1, ![c]⟩ x 0xFF800000#32 h hφ ha (ix1 j)
      = (Finset.univ : Finset (Fin n)).fold max ⊥ fun i => x (ix2 i j) := by
  refine (Ideal.multiReduction_maximumf_single (φ := .f32) x 0xFF800000#32 h hφ ha (ix1 j)).trans ?_
  rw [ofBits_bot]
  refine Finset.fold_congr fun i _ => ?_
  show x (h.lift (ix1 j) i) = _
  refine congrArg x (funext fun a => ?_)
  match a with
  | ⟨0, _⟩ => rfl
  | ⟨1, _⟩ => rfl

/-- The step of a column of B: its peak, at least `tiny`, over 127. -/
theorem quant_step (v0 : Vec Ideal S10000x128 .f32) (j : Fin 128) :
    k1_pay2 (F := Ideal) v0 (ix2 0 j) = Math.step tiny (mat v0) j := by
  unfold k1_pay2 k1_pay1 Math.step Math.peak
  rw [mulf_apply, maximumf_apply, lane_apply, broadcast_apply, broadcast_apply, named_inv127, shapeCast_self, ofBits_tiny]
  exact congrArg (fun t => max t tiny * ((1 / 127 : ℝ) : EReal)) (col_max (absf v0) _ _ _ j)

/-- The stored code of an element of B: its quotient by its column's step, rounded, held in [-128, 127]. -/
theorem quant_code (v0 : Vec Ideal S10000x128 .f32) (i : Fin 10000) (j : Fin 128) :
    k1_pay3 (F := Ideal) v0 (ix2 i j) = Math.word (Math.grid tiny (mat v0) i j) := by
  have e : mulf (k1_pay1 (F := Ideal) v0) (broadcastTo S10000x128 (divf (broadcast S1x128 (Scalar.ofBits .f32 0x3F800000#32)) (k1_pay2 (F := Ideal) v0))
      broadcasts_S1x128_S10000x128) (ix2 i j) = Math.grid tiny (mat v0) i j := by
    unfold k1_pay1
    rw [mulf_apply, row_apply', divf_apply, quant_step, broadcast_apply, ofBits_one,
      Math.mul_div_one (Math.step_pos tiny_pos _ _).ne', shapeCast_self]
    rfl
  rw [← e]
  rfl

/-- The stored scale of a column: its step over 127. -/
theorem quant_scale (v0 : Vec Ideal S10000x128 .f32) (j : Fin 128) :
    k1_pay4 (F := Ideal) v0 (ix2 0 j) = Math.step tiny (mat v0) j * ((1 / 127 : ℝ) : EReal) := by
  unfold k1_pay4
  rw [mulf_apply, quant_step, broadcast_apply, named_inv127]

/-! ## Pass 2 -/

/-- The int8 product at (i, j), while its magnitudes total at most 2^26: the integer dot product. -/
theorem int8_dot (l : IVec S200x10000 8) (r : IVec S10000x128 8) (i : Fin 200) (j : Fin 128)
    (h : ∑ k : Fin 10000, ((l (ix2 i k)).toInt * (r (ix2 k j)).toInt).natAbs ≤ 2 ^ 26) :
    (matmulI8 IntMxuNumerics.v5e dot_S200x10000_S10000x128_S200x128_1_0_0_1_n_n l r (constantI S200x128 32 0#32) (ix2 i j)).toInt
      = ∑ k : Fin 10000, (l (ix2 i k)).toInt * (r (ix2 k j)).toInt := by
  have e : ∀ k, dot_S200x10000_S10000x128_S200x128_1_0_0_1_n_n.lhsIdx (ix2 i j) ((contrEquiv1 dot_S200x10000_S10000x128_S200x128_1_0_0_1_n_n 10000 rfl rfl).symm k) = ix2 i k
      ∧ dot_S200x10000_S10000x128_S200x128_1_0_0_1_n_n.rhsIdx (ix2 i j) ((contrEquiv1 dot_S200x10000_S10000x128_S200x128_1_0_0_1_n_n 10000 rfl rfl).symm k) = ix2 k j := fun k => by
    have hk := contrEquiv1_symm_val dot_S200x10000_S10000x128_S200x128_1_0_0_1_n_n 10000 rfl rfl k
    constructor <;> funext a <;> apply Fin.ext
    · match a with
      | ⟨0, _⟩ => rfl
      | ⟨1, _⟩ => exact hk
    · match a with
      | ⟨0, _⟩ => exact hk
      | ⟨1, _⟩ => rfl
  have hs : absDotI8 dot_S200x10000_S10000x128_S200x128_1_0_0_1_n_n l r (ix2 i j) ≤ IntMxuNumerics.v5e.exactUpTo := by
    unfold absDotI8
    rw [← Equiv.sum_comp (contrEquiv1 dot_S200x10000_S10000x128_S200x128_1_0_0_1_n_n 10000 rfl rfl).symm]
    exact le_trans (le_of_eq (Finset.sum_congr rfl fun k _ => by rw [(e k).1, (e k).2])) h
  rw [matmulI8_toInt IntMxuNumerics.v5e _ l r _ _ rfl hs]
  unfold dotI8
  rw [← Equiv.sum_comp (contrEquiv1 dot_S200x10000_S10000x128_S200x128_1_0_0_1_n_n 10000 rfl rfl).symm]
  exact Finset.sum_congr rfl fun k _ => by rw [(e k).1, (e k).2]

/-- An element of the result's block: the integer dot product of the codes, times the column's scale, plus b2. -/
theorem pass2_elt (v0 : Vec Ideal S200x10000 .i8) (v2 : Vec Ideal S10000x128 .i8) (v6 v10 : Vec Ideal S1x128 .f32)
    (i : Fin 200) (j : Fin 128)
    (h : ∑ k : Fin 10000, (BitVec.toInt (n := 8) (v0 (ix2 i k)) * BitVec.toInt (n := 8) (v2 (ix2 k j))).natAbs ≤ 2 ^ 26) :
    k2_pay1 (F := Ideal) v0 v2 v6 v10 (ix2 i j)
      = (((∑ k : Fin 10000, BitVec.toInt (n := 8) (v0 (ix2 i k)) * BitVec.toInt (n := 8) (v2 (ix2 k j)) : ℤ) : ℝ) : EReal) * v6 (ix2 0 j)
        + v10 (ix2 0 j) := by
  unfold k2_pay1
  rw [addf_apply, mulf_apply, row_apply, row_apply, sitofp_apply, shapeCast_self, shapeCast_self, shapeCast_self, shapeCast_self]
  exact congrArg (fun z : ℤ => ((z : ℝ) : EReal) * v6 (ix2 0 j) + v10 (ix2 0 j)) (int8_dot v0 v2 i j h)

end Cert.Proof.Blocks

end
-- ==== Proof.Arrays.lean ====
/- What each pass leaves in its output arrays, over the extended reals, as a function of what it finds in its input arrays: every
   block is the block of one whole-array function, and the blocks fill the array. -/
module

public import proofs.«01_k».proof.Proof.Geometry
public import proofs.«01_k».proof.Proof.Blocks

@[expose] public section

noncomputable section

namespace Cert.Proof.Arrays

open Cert.KernelIdeal Cert.KernelIdeal.Gen Idealize.ShloMosaic Idealize.ShloMosaic.TcCoe Idealize.ShloMosaic.ValueIdx Idealize.SL.Sem
open Idealize.ShloMosaic.Pipeline (Dat Window)
open Cert.Proof Cert.Proof.Blocks Cert.Proof.Geometry
open scoped BigOperators

-- the contents the core's buffers hold when the pass starts
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## Pass 1 -/

/-- The codes of an array of values: each times 127, rounded, held in [-128, 127]. -/
def codesOf (S : S10000x10000.Idx → EReal) : S10000x10000.Idx → BitVec 8 := fun i => Math.word (S i * 127)

/-- relu ((S X) W1 + b1) W2, b1 given as one row. -/
def rowsOf (S : S10000x10000.Idx → EReal) (X : S10000x128.Idx → EReal) (W1 : S128x128.Idx → EReal) (b1 : S1x128.Idx → EReal)
    (W2 : S128x128.Idx → EReal) : S10000x128.Idx → EReal := fun i =>
  Math.mix (Math.hidden' (mat S) (mat X) (mat W1) (fun l => b1 (ix2 0 l))) (mat W2) (i 0) (i 1)

/-- A block's row of S is the array's row. -/
theorem in0_0 (t : Fin cfg0.N) (r : Fin 200) (k : Fin 10000) :
    iblk0 V c 0 t (ix2 r k) = (V c main_arg0 : S10000x10000.Idx → EReal) (ix2 (row n0 t r) k) :=
  congrArg (V c main_arg0 : S10000x10000.Idx → EReal) (emb0_0 t r k)
theorem in0_1 (t : Fin cfg0.N) : iblk0 V c 1 t = (V c main_arg1 : S10000x128.Idx → EReal) :=
  funext fun y => congrArg (V c main_arg1 : S10000x128.Idx → EReal) (emb0_1 t y)
theorem in0_2 (t : Fin cfg0.N) : iblk0 V c 2 t = (V c main_arg2 : S128x128.Idx → EReal) :=
  funext fun y => congrArg (V c main_arg2 : S128x128.Idx → EReal) (emb0_2 t y)
theorem in0_3 (t : Fin cfg0.N) : iblk0 V c 3 t = (V c main_call0_v0 : S1x128.Idx → EReal) :=
  funext fun y => congrArg (V c main_call0_v0 : S1x128.Idx → EReal) (emb0_3 t y)
theorem in0_4 (t : Fin cfg0.N) : iblk0 V c 4 t = (V c main_arg4 : S128x128.Idx → EReal) :=
  funext fun y => congrArg (V c main_arg4 : S128x128.Idx → EReal) (emb0_4 t y)

/-- What point `t` writes back of the codes is its block of the whole array's codes. -/
theorem flushed0_6 (t : Fin cfg0.N) :
    (dat0 V c).flushed 6 t = ((cfg0.win 6).blk t).view.read (Elt Ideal) (codesOf (V c main_arg0)) := by
  show (cfg0.win 6).cut (grid0.coords t) ((dat0 V c).after 6 t) = _
  rw [after0_6]
  unfold out0_6
  rw [View.canon_unit_zero hz, View.ld_unit_zero hz]
  have h : ∀ y : S200x10000.Idx, k0_pay1 (F := Ideal) (iblk0 V c 0 t) y = codesOf (V c main_arg0) ((win0_6.rect t).emb y) := fun y => by
    obtain ⟨r, k, rfl⟩ : ∃ (r : Fin 200) (k : Fin 10000), y = ix2 r k := ⟨y 0, y 1, eq_ix2 y⟩
    rw [emb0_6, pass1_code, in0_0]
    rfl
  exact funext h

/-- What point `t` writes back of B is its block of the whole product. -/
theorem flushed0_5 (t : Fin cfg0.N) :
    (dat0 V c).flushed 5 t = ((cfg0.win 5).blk t).view.read (Elt Ideal)
      (rowsOf (V c main_arg0) (V c main_arg1) (V c main_arg2) (V c main_call0_v0) (V c main_arg4)) := by
  show (cfg0.win 5).cut (grid0.coords t) ((dat0 V c).after 5 t) = _
  rw [after0_5]
  unfold out0_5
  rw [View.canon_unit_zero hz, View.ld_unit_zero hz, View.ld_unit_zero hz, View.ld_unit_zero hz, View.ld_unit_zero hz, View.ld_unit_zero hz]
  have h : ∀ y : S200x128.Idx, k0_pay2 (F := Ideal) (iblk0 V c 0 t) (iblk0 V c 1 t) (iblk0 V c 2 t) (iblk0 V c 3 t) (iblk0 V c 4 t) y
      = rowsOf (V c main_arg0) (V c main_arg1) (V c main_arg2) (V c main_call0_v0) (V c main_arg4) ((win0_5.rect t).emb y) := fun y => by
    obtain ⟨r, k, rfl⟩ : ∃ (r : Fin 200) (k : Fin 128), y = ix2 r k := ⟨y 0, y 1, eq_ix2 y⟩
    rw [emb0_5, pass1_row, in0_1, in0_2, in0_3, in0_4]
    have e : mat (iblk0 V c 0 t) = fun (r : Fin 200) (k : Fin 10000) => (V c main_arg0 : S10000x10000.Idx → EReal) (ix2 (row n0 t r) k) :=
      funext fun r => funext fun k => in0_0 V c t r k
    rw [e]
    rfl
  exact funext h

/-- The codes of S after pass 1. -/
theorem codes0 : (dat0 V c).arrAt 6 cfg0.N = codesOf (V c main_arg0) :=
  (dat0 V c).arrAt_eq_of_cover 6 (codesOf (V c main_arg0)) (fun t _ => flushed0_6 V c t) cover0_6

/-- B after pass 1. -/
theorem rows0 : (dat0 V c).arrAt 5 cfg0.N
    = rowsOf (V c main_arg0) (V c main_arg1) (V c main_arg2) (V c main_call0_v0) (V c main_arg4) :=
  (dat0 V c).arrAt_eq_of_cover 5 (rowsOf (V c main_arg0) (V c main_arg1) (V c main_arg2) (V c main_call0_v0) (V c main_arg4))
    (fun t _ => flushed0_5 V c t) cover0_5

/-! ## Requantizing B -/

/-- The codes of an array on the grids of its columns. -/
def gridCodesOf (B : S10000x128.Idx → EReal) : S10000x128.Idx → BitVec 8 := fun i => Math.word (Math.grid tiny (mat B) (i 0) (i 1))

/-- The columns' scales: each step over 127. -/
def scalesOf (B : S10000x128.Idx → EReal) : S1x128.Idx → EReal := fun i => Math.step tiny (mat B) (i 1) * ((1 / 127 : ℝ) : EReal)

theorem in1_0 (t : Fin cfg1.N) : iblk1 V c 0 t = (V c main_call0_v1_0 : S10000x128.Idx → EReal) :=
  funext fun y => congrArg (V c main_call0_v1_0 : S10000x128.Idx → EReal) (emb1_0 t y)

theorem flushed1_1 (t : Fin cfg1.N) :
    (dat1 V c).flushed 1 t = ((cfg1.win 1).blk t).view.read (Elt Ideal) (gridCodesOf (V c main_call0_v1_0)) := by
  show (cfg1.win 1).cut (grid1.coords t) ((dat1 V c).after 1 t) = _
  rw [after1_1]
  unfold out1_1
  rw [View.canon_unit_zero hz, View.ld_unit_zero hz]
  have h : ∀ y : S10000x128.Idx, k1_pay3 (F := Ideal) (iblk1 V c 0 t) y = gridCodesOf (V c main_call0_v1_0) ((win1_1.rect t).emb y) := fun y => by
    obtain ⟨r, k, rfl⟩ : ∃ (r : Fin 10000) (k : Fin 128), y = ix2 r k := ⟨y 0, y 1, eq_ix2 y⟩
    rw [emb1_1, in1_0, quant_code]
    rfl
  exact funext h

theorem flushed1_2 (t : Fin cfg1.N) :
    (dat1 V c).flushed 2 t = ((cfg1.win 2).blk t).view.read (Elt Ideal) (scalesOf (V c main_call0_v1_0)) := by
  show (cfg1.win 2).cut (grid1.coords t) ((dat1 V c).after 2 t) = _
  rw [after1_2]
  unfold out1_2
  rw [View.canon_unit_zero hz, View.ld_unit_zero hz]
  have h : ∀ y : S1x128.Idx, k1_pay4 (F := Ideal) (iblk1 V c 0 t) y = scalesOf (V c main_call0_v1_0) ((win1_2.rect t).emb y) := fun y => by
    obtain ⟨z, k, rfl⟩ : ∃ (z : Fin 1) (k : Fin 128), y = ix2 z k := ⟨y 0, y 1, eq_ix2 y⟩
    obtain rfl : z = 0 := Subsingleton.elim z 0
    rw [emb1_2, in1_0, quant_scale]
    rfl
  exact funext h

/-- The codes of B after requantizing. -/
theorem codes1 : (dat1 V c).arrAt 1 cfg1.N = gridCodesOf (V c main_call0_v1_0) :=
  (dat1 V c).arrAt_eq_of_cover 1 (gridCodesOf (V c main_call0_v1_0)) (fun t _ => flushed1_1 V c t) cover1_1

/-- The scales after requantizing. -/
theorem scales1 : (dat1 V c).arrAt 2 cfg1.N = scalesOf (V c main_call0_v1_0) :=
  (dat1 V c).arrAt_eq_of_cover 2 (scalesOf (V c main_call0_v1_0)) (fun t _ => flushed1_2 V c t) cover1_2

/-! ## Pass 2 -/

/-- The total of the magnitudes of the products of codes one element of the integer product sums. -/
def total (l : S10000x10000.Idx → BitVec 8) (r : S10000x128.Idx → BitVec 8) (i : Fin 10000) (j : Fin 128) : ℕ :=
  ∑ k : Fin 10000, ((l (ix2 i k)).toInt * (r (ix2 k j)).toInt).natAbs

/-- The integer product of codes, scaled by column, plus a row. -/
def resultOf (l : S10000x10000.Idx → BitVec 8) (r : S10000x128.Idx → BitVec 8) (sc b2 : S1x128.Idx → EReal) : S10000x128.Idx → EReal :=
  fun i => (((∑ k : Fin 10000, (l (ix2 (i 0) k)).toInt * (r (ix2 k (i 1))).toInt : ℤ) : ℝ) : EReal) * sc (ix2 0 (i 1)) + b2 (ix2 0 (i 1))

theorem in2_0 (t : Fin cfg2.N) (r : Fin 200) (k : Fin 10000) :
    iblk2 V c 0 t (ix2 r k) = (V c main_call0_v1_1 : S10000x10000.Idx → BitVec 8) (ix2 (row n2 t r) k) :=
  congrArg (V c main_call0_v1_1 : S10000x10000.Idx → BitVec 8) (emb2_0 t r k)
theorem in2_1 (t : Fin cfg2.N) : iblk2 V c 1 t = (V c main_call0_v2_0 : S10000x128.Idx → BitVec 8) :=
  funext fun y => congrArg (V c main_call0_v2_0 : S10000x128.Idx → BitVec 8) (emb2_1 t y)
theorem in2_2 (t : Fin cfg2.N) : iblk2 V c 2 t = (V c main_call0_v2_1 : S1x128.Idx → EReal) :=
  funext fun y => congrArg (V c main_call0_v2_1 : S1x128.Idx → EReal) (emb2_2 t y)
theorem in2_3 (t : Fin cfg2.N) : iblk2 V c 3 t = (V c main_call0_v3 : S1x128.Idx → EReal) :=
  funext fun y => congrArg (V c main_call0_v3 : S1x128.Idx → EReal) (emb2_3 t y)

/-- What point `t` writes back of the result, while every total is at most 2^26. -/
theorem flushed2_4 (h : ∀ i j, total (V c main_call0_v1_1) (V c main_call0_v2_0) i j ≤ 2 ^ 26) (t : Fin cfg2.N) :
    (dat2 V c).flushed 4 t = ((cfg2.win 4).blk t).view.read (Elt Ideal)
      (resultOf (V c main_call0_v1_1) (V c main_call0_v2_0) (V c main_call0_v2_1) (V c main_call0_v3)) := by
  show (cfg2.win 4).cut (grid2.coords t) ((dat2 V c).after 4 t) = _
  rw [after2_4]
  unfold out2_4
  rw [View.canon_unit_zero hz, View.ld_unit_zero hz, View.ld_unit_zero hz, View.ld_unit_zero hz, View.ld_unit_zero hz]
  have hy : ∀ y : S200x128.Idx, k2_pay1 (F := Ideal) (iblk2 V c 0 t) (iblk2 V c 1 t) (iblk2 V c 2 t) (iblk2 V c 3 t) y
      = resultOf (V c main_call0_v1_1) (V c main_call0_v2_0) (V c main_call0_v2_1) (V c main_call0_v3) ((win2_4.rect t).emb y) := fun y => by
    obtain ⟨r, k, rfl⟩ : ∃ (r : Fin 200) (k : Fin 128), y = ix2 r k := ⟨y 0, y 1, eq_ix2 y⟩
    have ht := h (row n2 t r) k
    unfold total at ht
    rw [emb2_4, in2_1, in2_2, in2_3, pass2_elt]
    · unfold resultOf
      simp only [in2_0]
    · simp only [in2_0]
      exact ht
  exact funext hy

/-- The result after pass 2, while every total is at most 2^26. -/
theorem result2 (h : ∀ i j, total (V c main_call0_v1_1) (V c main_call0_v2_0) i j ≤ 2 ^ 26) :
    (dat2 V c).arrAt 4 cfg2.N = resultOf (V c main_call0_v1_1) (V c main_call0_v2_0) (V c main_call0_v2_1) (V c main_call0_v3) :=
  (dat2 V c).arrAt_eq_of_cover 4 (resultOf (V c main_call0_v1_1) (V c main_call0_v2_0) (V c main_call0_v2_1) (V c main_call0_v3))
    (fun t _ => flushed2_4 V c h t) cover2_4

end Cert.Proof.Arrays

end
-- ==== Proof.Chain.lean ====
/- The three passes one after another: what each finds in its input arrays is what the arguments, the two reshapes and the passes
   before it left there. The result array is read from the arguments at launch. -/
module

public import proofs.«01_k».proof.Proof.Arrays

@[expose] public section

noncomputable section

namespace Cert.Proof.Chain

open Cert.KernelIdeal Cert.KernelIdeal.Gen Idealize.ShloMosaic Idealize.ShloMosaic.TcCoe Idealize.ShloMosaic.ValueIdx Idealize.SL.Sem
open Cert.Proof Cert.Proof.Blocks Cert.Proof.Arrays
open scoped BigOperators

variable (m : (ℓ : Loc nD τ sig) → Buf (Elt Ideal) ℓ) (ρ : Dev nD → PrngReg) (c : Dev nD)

/-- A vector of 128 entries laid out as one row. -/
def asRow (v : S128.Idx → EReal) : S1x128.Idx → EReal := shapeCast S1x128 v shapeCasts_S128_S1x128

theorem asRow_apply (v : S128.Idx → EReal) (j : Fin 128) : asRow v (ix2 0 j) = v (ix1 j) := lane_apply v j

/-- The second layer's input B, from the arguments. -/
def valB : S10000x128.Idx → EReal :=
  rowsOf (m ((c : Thread nD τ).loc main_arg0)) (m ((c : Thread nD τ).loc main_arg1)) (m ((c : Thread nD τ).loc main_arg2))
    (asRow (m ((c : Thread nD τ).loc main_arg3))) (m ((c : Thread nD τ).loc main_arg4))

/-! ## What pass 1 finds -/

theorem v1_arg (a : Ref sig .tc) (h : a ∈ argRefs) : V1 m ρ c a = m ((c : Thread nD τ).loc a) := W1_args m ρ c a h

theorem v1_b1 : V1 m ρ c main_call0_v0 = asRow (m ((c : Thread nD τ).loc main_arg3)) := by
  show StableHlo.after hostOps0 (W0 m ρ c) (Proc.devRef .tc main_call0_v0) = _
  unfold hostOps0
  rw [StableHlo.after_cons, StableHlo.after_nil]
  exact StableHlo.reshape_result' _ _ _ _ _

/-! ## What the requantizing finds -/

theorem v2_B : V2 m ρ c main_call0_v1_0 = valB m c := by
  have e := (W2_arr m ρ c 5).trans (rows0 (V1 m ρ) c)
  rw [v1_b1, v1_arg m ρ c main_arg0 (by decide), v1_arg m ρ c main_arg1 (by decide), v1_arg m ρ c main_arg2 (by decide),
    v1_arg m ρ c main_arg4 (by decide)] at e
  exact e

/-! ## What pass 2 finds -/

theorem v4_codes : V4 m ρ c main_call0_v1_1 = codesOf (m ((c : Thread nD τ).loc main_arg0)) := by
  have e := (W2_arr m ρ c 6).trans (codes0 (V1 m ρ) c)
  rw [v1_arg m ρ c main_arg0 (by decide)] at e
  exact (W4_of m ρ c main_call0_v1_1 (by decide)).trans ((W3_of_ne m ρ c main_call0_v1_1 (by decide)).trans e)

theorem v4_gridCodes : V4 m ρ c main_call0_v2_0 = gridCodesOf (valB m c) := by
  have e := (W3_arr m ρ c 1).trans (codes1 (V2 m ρ) c)
  rw [v2_B] at e
  exact (W4_of m ρ c main_call0_v2_0 (by decide)).trans e

theorem v4_scales : V4 m ρ c main_call0_v2_1 = scalesOf (valB m c) := by
  have e := (W3_arr m ρ c 2).trans (scales1 (V2 m ρ) c)
  rw [v2_B] at e
  exact (W4_of m ρ c main_call0_v2_1 (by decide)).trans e

theorem v4_b2 : V4 m ρ c main_call0_v3 = asRow (m ((c : Thread nD τ).loc main_arg5)) := by
  have e : W4 m ρ c (Proc.devRef .tc main_call0_v3) = asRow (W3 m ρ c (Proc.devRef .tc main_arg5)) := by
    show StableHlo.after hostOps2 (W3 m ρ c) (Proc.devRef .tc main_call0_v3) = _
    unfold hostOps2
    rw [StableHlo.after_cons, StableHlo.after_nil]
    exact StableHlo.reshape_result' _ _ _ _ _
  rw [W3_args m ρ c main_arg5 (by decide)] at e
  exact e

/-! ## The result -/

/-- What the run leaves in the result array, from the arguments: while every total of products of codes is at most 2^26. -/
theorem result (h : ∀ i j, total (codesOf (m ((c : Thread nD τ).loc main_arg0))) (gridCodesOf (valB m c)) i j ≤ 2 ^ 26) :
    (dat2 (V4 m ρ) c).arrAt 4 cfg2.N = resultOf (codesOf (m ((c : Thread nD τ).loc main_arg0))) (gridCodesOf (valB m c))
      (scalesOf (valB m c)) (asRow (m ((c : Thread nD τ).loc main_arg5))) := by
  have e := result2 (V4 m ρ) c
  rw [v4_codes, v4_gridCodes, v4_scales, v4_b2] at e
  exact e h

end Cert.Proof.Chain

end
-- ==== Proof.Reference.lean ====
/- The reference over the extended reals, one element at a time: its hidden layer and product B, the codes of S and of B, the
   columns' steps, and the result. -/
module

public import proofs.«01_k».proof.Proof.Gen.ReferenceIdeal.Read
public import proofs.«01_k».proof.Proof.Math
public import proofs.«01_k».proof.Proof.Blocks

@[expose] public section

noncomputable section

namespace Cert.Proof.Reference

open Cert.ReferenceIdeal Cert.ReferenceIdeal.Gen Cert.ReferenceIdeal.Read Idealize.ShloMosaic Idealize.ShloMosaic.ValueIdx
open Cert.Proof
open Cert.Proof.Blocks (mat tiny tiny_pos)
open scoped BigOperators

variable (x0 : S10000x10000.Idx → EReal) (x1 : S10000x128.Idx → EReal) (x2 : S128x128.Idx → EReal) (x3 : S128.Idx → EReal)
  (x4 : S128x128.Idx → EReal) (x5 : S128.Idx → EReal)

/-- -128 as the literal writes it. -/
theorem lit_n128 : Ideal.ofBits .f32 0xC3000000#32 = -128 := by
  simp [Ideal.ofBits, Ideal.ieee, -EReal.coe_mul]; norm_num; rfl

/-- Rounding and the two bounds, as the operations write them. -/
theorem clip_ops (x : EReal) :
    FloatOps.minimumf (F := Ideal) (φ := .f32) (FloatOps.ofBits .f32 0x42FE0000#32)
      (FloatOps.maximumf (F := Ideal) (φ := .f32) (FloatOps.ofBits .f32 0xC3000000#32) (FloatOps.hostUnary (F := Ideal) (φ := .f32) .roundeven x))
      = Math.clip x := by
  unfold Math.clip
  rw [← Blocks.lit_127, ← lit_n128]
  rfl

/-! ## Where each operation reads -/

theorem at_l0 (i : Fin 10000) (j k : Fin 128) : lidx_main_v0 (ix2 i j) k = ix2 i k := funext fun a => match a with | ⟨0, _⟩ => rfl | ⟨1, _⟩ => rfl
theorem at_r0 (i : Fin 10000) (j k : Fin 128) : ridx_main_v0 (ix2 i j) k = ix2 k j := funext fun a => match a with | ⟨0, _⟩ => rfl | ⟨1, _⟩ => rfl
theorem at_l1 (i k : Fin 10000) (j : Fin 128) : lidx_main_v1 (ix2 i j) k = ix2 i k := funext fun a => match a with | ⟨0, _⟩ => rfl | ⟨1, _⟩ => rfl
theorem at_r1 (i k : Fin 10000) (j : Fin 128) : ridx_main_v1 (ix2 i j) k = ix2 k j := funext fun a => match a with | ⟨0, _⟩ => rfl | ⟨1, _⟩ => rfl
theorem at_l6 (i : Fin 10000) (j k : Fin 128) : lidx_main_v6 (ix2 i j) k = ix2 i k := funext fun a => match a with | ⟨0, _⟩ => rfl | ⟨1, _⟩ => rfl
theorem at_r6 (i : Fin 10000) (j k : Fin 128) : ridx_main_v6 (ix2 i j) k = ix2 k j := funext fun a => match a with | ⟨0, _⟩ => rfl | ⟨1, _⟩ => rfl
theorem at_l26 (i k : Fin 10000) (j : Fin 128) : lidx_main_v26 (ix2 i j) k = ix2 i k := funext fun a => match a with | ⟨0, _⟩ => rfl | ⟨1, _⟩ => rfl
theorem at_r26 (i k : Fin 10000) (j : Fin 128) : ridx_main_v26 (ix2 i j) k = ix2 k j := funext fun a => match a with | ⟨0, _⟩ => rfl | ⟨1, _⟩ => rfl
theorem at_3 (i : Fin 10000) (j : Fin 128) : idx_main_v2 (idx_main_v3 (ix2 i j)) = ix1 j := funext fun a => match a with | ⟨0, _⟩ => rfl
theorem at_28 (i : Fin 10000) (j : Fin 128) : idx_main_v27 (idx_main_v28 (ix2 i j)) = ix1 j := funext fun a => match a with | ⟨0, _⟩ => rfl
theorem at_18 (i : Fin 10000) (j : Fin 128) : idx_main_v18 (ix2 i j) = ix2 0 j := funext fun a => match a with | ⟨0, _⟩ => rfl | ⟨1, _⟩ => rfl
theorem at_24 (i : Fin 10000) (j : Fin 128) : idx_main_v24 (ix2 i j) = ix2 0 j := funext fun a => match a with | ⟨0, _⟩ => rfl | ⟨1, _⟩ => rfl
theorem at_13 (j : Fin 128) : idx_main_v13 (ix2 0 j) = ix1 j := funext fun a => match a with | ⟨0, _⟩ => rfl

/-! ## The hidden layer and B -/

/-- B = relu (S (X W1) + b1) W2. -/
def refB : Fin 10000 → Fin 128 → EReal := Math.mix (Math.hidden (mat x0) (mat x1) (mat x2) (fun l => x3 (ix1 l))) (mat x4)

theorem hidden_eq (i : Fin 10000) (l : Fin 128) :
    val_main_v5 (F := Ideal) x0 x1 x2 x3 (ix2 i l) = Math.hidden (mat x0) (mat x1) (mat x2) (fun l => x3 (ix1 l)) i l := by
  rw [val_main_v5_apply, val_main_v4_apply, val_main_v3_apply, val_main_v2_apply, at_3, val_main_call0_v0_apply, val_main_call0_cst_apply,
    Blocks.ofBits_zero, val_main_v1_apply]
  simp only [at_l1, at_r1, val_main_v0_apply, at_l0, at_r0]
  rfl

theorem refB_eq (i : Fin 10000) (j : Fin 128) : val_main_v6 (F := Ideal) x0 x1 x2 x3 x4 (ix2 i j) = refB x0 x1 x2 x3 x4 i j := by
  rw [val_main_v6_apply]
  simp only [at_l6, at_r6, hidden_eq]
  rfl

/-! ## The codes of S -/

theorem codeS_eq (i k : Fin 10000) : val_main_v10 (F := Ideal) x0 (ix2 i k) = Math.clip (x0 (ix2 i k) * 127) := by
  rw [val_main_v10_apply, val_main_call2_v4_apply, val_main_call2_v3_apply, val_main_cst_1_apply, val_main_call2_v2_apply,
    val_main_call2_v1_apply, val_main_call2_v0_apply, val_main_cst_0_apply, val_main_v9_apply, val_main_v8_apply, val_main_v7_apply,
    val_main_cst_apply]
  rw [clip_ops, Blocks.ofBits_127]
  rfl

/-! ## The steps and codes of B -/

/-- The maximum down a column, at any extents. -/
theorem col_max {n c : ℕ} (x : FVec Ideal ⟨2, ![n, c]⟩ .f32) (init : FVec Ideal ⟨0, ![]⟩ .f32) (h' : (⟨2, ![n, c]⟩ : Shape).ReducesTo [0] ⟨1, ![c]⟩)
    (h : (⟨2, ![n, c]⟩ : Shape).Reduces [0] ⟨1, ![c]⟩) (hu : 0 < (⟨0, ![]⟩ : Shape).numel) (hi : ∀ i, init i = (⊥ : EReal)) (j : Fin c) :
    Host.reduce FloatOps.maximumf x init h' hu (ix1 j) = (Finset.univ : Finset (Fin n)).fold max (⊥ : EReal) fun i => x (ix2 i j) := by
  refine (Host.reduce_eq_fold_single FloatOps.maximumf x init h' h hu (ix1 j)).trans ?_
  rw [hi]
  refine Finset.fold_congr fun i _ => ?_
  show x (h.lift (ix1 j) i) = _
  refine congrArg x (funext fun a => ?_)
  match a with
  | ⟨0, _⟩ => rfl
  | ⟨1, _⟩ => rfl

theorem reduces_col : S10000x128.Reduces [0] S128 := by decide

theorem peak_eq (j : Fin 128) : val_main_v15 (F := Ideal) x0 x1 x2 x3 x4 (ix2 0 j) = Math.peak tiny (refB x0 x1 x2 x3 x4) j := by
  rw [val_main_v15_apply, val_main_v13_apply, at_13, val_main_v14_apply, val_main_cst_3_apply, Blocks.ofBits_tiny]
  unfold val_main_v12 Math.peak
  refine congrArg (fun t => max t tiny) ((col_max (val_main_v11 (F := Ideal) x0 x1 x2 x3 x4) (val_main_cst_2 (F := Ideal)) _ reduces_col _
    (fun i => Blocks.lit_bot) j).trans (Finset.fold_congr fun i _ => ?_))
  rw [val_main_v11_apply, refB_eq]
  rfl

theorem step_eq (j : Fin 128) : val_main_v17 (F := Ideal) x0 x1 x2 x3 x4 (ix2 0 j) = Math.step tiny (refB x0 x1 x2 x3 x4) j := by
  rw [val_main_v17_apply, peak_eq, val_main_v16_apply, val_main_cst_4_apply, Blocks.ofBits_127]
  exact Math.div_127 _

theorem codeB_eq (k : Fin 10000) (j : Fin 128) :
    val_main_v21 (F := Ideal) x0 x1 x2 x3 x4 (ix2 k j) = Math.clip (Math.grid tiny (refB x0 x1 x2 x3 x4) k j) := by
  rw [val_main_v21_apply, val_main_call4_v4_apply, val_main_call4_v3_apply, val_main_cst_6_apply, val_main_call4_v2_apply,
    val_main_call4_v1_apply, val_main_call4_v0_apply, val_main_cst_5_apply, val_main_v20_apply, val_main_v19_apply, refB_eq,
    val_main_v18_apply, at_18, step_eq, clip_ops]
  unfold Math.grid
  rfl

/-! ## The result -/

/-- An element of the result: codes of S over 127 against codes of B times their column's step, plus b2. -/
theorem result_eq (i : Fin 10000) (j : Fin 128) :
    val_main_v29 (F := Ideal) x0 x1 x2 x3 x4 x5 (ix2 i j)
      = (∑ k : Fin 10000, Ideal.div (Math.clip (x0 (ix2 i k) * 127)) 127
          * (Math.clip (Math.grid tiny (refB x0 x1 x2 x3 x4) k j) * Math.step tiny (refB x0 x1 x2 x3 x4) j)) + x5 (ix1 j) := by
  rw [val_main_v29_apply, val_main_v28_apply, val_main_v27_apply, at_28, val_main_v26_apply]
  simp only [at_l26, at_r26, val_main_v23_apply, codeS_eq, val_main_v22_apply, val_main_cst_7_apply, Blocks.ofBits_127, val_main_v25_apply,
    codeB_eq, val_main_v24_apply, at_24, step_eq]
  rfl

end Cert.Proof.Reference

end
-- ==== Proof.Precondition.lean ====
/- What the precondition says, read element by element: S, X and W1 are finite, and the magnitudes of the codes' products that one
   element of the result sums total at most 2^26. -/
module

public import proofs.«01_k».proof.Pre_exact_range
public import proofs.«01_k».proof.Proof.Gen.Pre_exact_range
public import proofs.«01_k».proof.Proof.Reference
public import Idealize.ShloMosaic.Lib.ReduceAll

@[expose] public section

noncomputable section

namespace Cert.Proof.Precondition

open Cert.ReferenceIdeal Cert.ReferenceIdeal.Gen Cert.ReferenceIdeal.Read Idealize.ShloMosaic Idealize.ShloMosaic.ValueIdx
open Cert.Proof
open Cert.Proof.Blocks (mat tiny)
open Cert.Proof.Reference (refB)
open scoped BigOperators

variable (x0 : S10000x10000.Idx → EReal) (x1 : S10000x128.Idx → EReal) (x2 : S128x128.Idx → EReal) (x3 : S128.Idx → EReal)
  (x4 : S128x128.Idx → EReal) (x5 : S128.Idx → EReal)

/-! ## Single elements -/

theorem lit_inf : Ideal.ofBits .f32 0x7F800000#32 = ⊤ := by simp [Ideal.ofBits, Ideal.ieee]

theorem lit_bound : Ideal.ofBits .f32 0x4C800000#32 = (((2 ^ 26 : ℕ) : ℝ) : EReal) := by
  simp [Ideal.ofBits, Ideal.ieee, -EReal.coe_mul]; norm_num

/-- A truth value whose bit is 1 is true. -/
theorem bit_true {b : Bool} (h : BitVec.ofBool b = 1#1) : b = true := by revert h; cases b <;> decide

/-- An extended real whose magnitude is below infinity is a real. -/
theorem finite_of_lt (x : EReal) (h : Ideal.cmp .olt (max x (-x)) ⊤ = 1#1) : ∃ r : ℝ, x = r := by
  have h' : max x (-x) < ⊤ := by
    unfold Ideal.cmp at h
    exact of_decide_eq_true (bit_true h)
  induction x with
  | bot => simp at h'
  | top => simp at h'
  | coe r => exact ⟨r, rfl⟩

theorem le_of_cmp (x y : EReal) (h : Ideal.cmp .ole x y = 1#1) : x ≤ y := by
  unfold Ideal.cmp at h
  exact of_decide_eq_true (bit_true h)

/-! ## The four conditions -/

/-- The totals of magnitudes, one per element of the result. -/
def totals : S10000x128.Idx → EReal :=
  Host.dotGeneral (F := Ideal) (φ₁ := .f32) (φ₂ := .f32) dot_S10000x10000_S10000x128_S10000x128_1_0_0_1_n_n none (Host.absf (val_main_v10 (F := Ideal) x0))
    (Host.absf (val_main_v21 (F := Ideal) x0 x1 x2 x3 x4))

/-- Whether every magnitude of an array is below infinity, as one bit. -/
def allFinite {s : Shape} {axes : List (Fin s.rank)} (x : s.Idx → EReal) (hb : (⟨0, ![]⟩ : Shape).BroadcastsInDim s ![])
    (hr : s.ReducesTo axes ⟨0, ![]⟩) (hu : 0 < (⟨0, ![]⟩ : Shape).numel) : IVec ⟨0, ![]⟩ 1 :=
  Host.reduce IntOp.andi (cmpf (F := Ideal) (φ := .f32) .olt (Host.absf x) (broadcastInDim s ![] hb (constant ⟨0, ![]⟩ .f32 0x7F800000#32)))
    (constantI ⟨0, ![]⟩ 1 1#1) hr hu

/-- Whether every total is at most 2^26, as one bit. -/
def allBounded {s : Shape} {axes : List (Fin s.rank)} (x : s.Idx → EReal) (hb : (⟨0, ![]⟩ : Shape).BroadcastsInDim s ![])
    (hr : s.ReducesTo axes ⟨0, ![]⟩) (hu : 0 < (⟨0, ![]⟩ : Shape).numel) : IVec ⟨0, ![]⟩ 1 :=
  Host.reduce IntOp.andi (cmpf (F := Ideal) (φ := .f32) .ole x (broadcastInDim s ![] hb (constant ⟨0, ![]⟩ .f32 0x4C800000#32)))
    (constantI ⟨0, ![]⟩ 1 1#1) hr hu

/-- The precondition is the conjunction of the four. -/
theorem fn_eq : Cert.Pre_exact_range.fn (F := Ideal) x0 x1 x2 x3 x4 x5
    = andi (andi (andi (allFinite x0 Cert.Pre_exact_range.Facts.bcast_S_S10000x10000 Cert.Pre_exact_range.Facts.reducesTo_S10000x10000_S_d0_1 Cert.Pre_exact_range.Facts.h_S_)
        (allFinite x1 Cert.Pre_exact_range.Facts.bcast_S_S10000x128 Cert.Pre_exact_range.Facts.reducesTo_S10000x128_S_d0_1 Cert.Pre_exact_range.Facts.h_S_))
        (allFinite x2 Cert.Pre_exact_range.Facts.bcast_S_S128x128 Cert.Pre_exact_range.Facts.reducesTo_S128x128_S_d0_1 Cert.Pre_exact_range.Facts.h_S_))
        (allBounded (totals x0 x1 x2 x3 x4) Cert.Pre_exact_range.Facts.bcast_S_S10000x128 Cert.Pre_exact_range.Facts.reducesTo_S10000x128_S_d0_1 Cert.Pre_exact_range.Facts.h_S_) := rfl

theorem allFinite_read {s : Shape} {axes : List (Fin s.rank)} (x : s.Idx → EReal) (hb : (⟨0, ![]⟩ : Shape).BroadcastsInDim s ![])
    (hr : s.ReducesTo axes ⟨0, ![]⟩) (hu : 0 < (⟨0, ![]⟩ : Shape).numel) (j : (⟨0, ![]⟩ : Shape).Idx) (h : allFinite x hb hr hu j = 1#1) (i : s.Idx) :
    ∃ r : ℝ, x i = r := by
  haveI : Subsingleton (⟨0, ![]⟩ : Shape).Idx := ⟨fun a b => funext fun k => k.elim0⟩
  have e := Host.reduce_andi_all _ _ hr hu j h i
  refine finite_of_lt (x i) ?_
  rw [← lit_inf]
  exact e

theorem allBounded_read {s : Shape} {axes : List (Fin s.rank)} (x : s.Idx → EReal) (hb : (⟨0, ![]⟩ : Shape).BroadcastsInDim s ![])
    (hr : s.ReducesTo axes ⟨0, ![]⟩) (hu : 0 < (⟨0, ![]⟩ : Shape).numel) (j : (⟨0, ![]⟩ : Shape).Idx) (h : allBounded x hb hr hu j = 1#1) (i : s.Idx) :
    x i ≤ (((2 ^ 26 : ℕ) : ℝ) : EReal) := by
  haveI : Subsingleton (⟨0, ![]⟩ : Shape).Idx := ⟨fun a b => funext fun k => k.elim0⟩
  have e := Host.reduce_andi_all _ _ hr hu j h i
  refine le_of_cmp (x i) _ ?_
  rw [← lit_bound]
  exact e

/-- A total is the sum of the products of the magnitudes of the codes. -/
theorem totals_apply (i : Fin 10000) (j : Fin 128) :
    totals x0 x1 x2 x3 x4 (ix2 i j)
      = ∑ k : Fin 10000, Math.mag (Math.clip (x0 (ix2 i k) * 127)) * Math.mag (Math.clip (Math.grid tiny (refB x0 x1 x2 x3 x4) k j)) := by
  have e : ∀ k, dot_S10000x10000_S10000x128_S10000x128_1_0_0_1_n_n.lhsIdx (ix2 i j) ((contrEquiv1 dot_S10000x10000_S10000x128_S10000x128_1_0_0_1_n_n 10000 rfl rfl).symm k) = ix2 i k
      ∧ dot_S10000x10000_S10000x128_S10000x128_1_0_0_1_n_n.rhsIdx (ix2 i j) ((contrEquiv1 dot_S10000x10000_S10000x128_S10000x128_1_0_0_1_n_n 10000 rfl rfl).symm k) = ix2 k j := fun k => by
    have hk := contrEquiv1_symm_val dot_S10000x10000_S10000x128_S10000x128_1_0_0_1_n_n 10000 rfl rfl k
    constructor <;> refine funext fun a => Fin.ext ?_
    · match a with
      | ⟨0, _⟩ => exact lhs_main_v26_0 _ _
      | ⟨1, _⟩ => exact (lhs_main_v26_1 _ _).trans hk
    · match a with
      | ⟨0, _⟩ => exact (rhs_main_v26_0 _ _).trans hk
      | ⟨1, _⟩ => exact rhs_main_v26_1 _ _
  unfold totals
  simp only [Host.dotGeneral]
  rw [Ideal.dotGeneral_apply, ← Equiv.sum_comp (contrEquiv1 dot_S10000x10000_S10000x128_S10000x128_1_0_0_1_n_n 10000 rfl rfl).symm]
  refine Finset.sum_congr rfl fun k _ => ?_
  rw [(e k).1, (e k).2]
  refine congrArg₂ (· * ·) ?_ ?_
  · exact congrArg Math.mag (Reference.codeS_eq x0 i k)
  · exact congrArg Math.mag (Reference.codeB_eq x0 x1 x2 x3 x4 k j)

/-- The precondition, read. -/
theorem read (h : Cert.Pre_exact_range.fn (F := Ideal) x0 x1 x2 x3 x4 x5 = fun _ => 1#1) :
    (∀ i, ∃ r : ℝ, x0 i = r) ∧ (∀ i, ∃ r : ℝ, x1 i = r) ∧ (∀ i, ∃ r : ℝ, x2 i = r)
      ∧ ∀ i j, ∑ k : Fin 10000, Math.mag (Math.clip (x0 (ix2 i k) * 127)) * Math.mag (Math.clip (Math.grid tiny (refB x0 x1 x2 x3 x4) k j))
          ≤ (((2 ^ 26 : ℕ) : ℝ) : EReal) := by
  rw [fn_eq] at h
  obtain ⟨h', hT⟩ := IntOp.andi_eq_one.1 (congrFun h (Shape.Idx.first Cert.Pre_exact_range.Facts.h_S_))
  obtain ⟨h', h2⟩ := IntOp.andi_eq_one.1 h'
  obtain ⟨h0, h1⟩ := IntOp.andi_eq_one.1 h'
  refine ⟨allFinite_read _ _ _ _ _ h0, allFinite_read _ _ _ _ _ h1, allFinite_read _ _ _ _ _ h2, fun i j => ?_⟩
  rw [← totals_apply]
  exact allBounded_read _ _ _ _ _ hT (ix2 i j)

end Cert.Proof.Precondition

end
-- ==== Proof.Equation.lean ====
/- The equation: what the kernel's three passes leave in the result array is the reference's result, while the precondition holds. -/
module

public import proofs.«01_k».proof.Proof.Chain
public import proofs.«01_k».proof.Proof.Precondition

@[expose] public section

noncomputable section

namespace Cert.Proof.Equation

open Cert.KernelIdeal Idealize.ShloMosaic Idealize.ShloMosaic.ValueIdx
open Cert.Proof Cert.Proof.Blocks Cert.Proof.Arrays Cert.Proof.Chain
open Cert.Proof.Reference (refB)
open scoped BigOperators

variable (x0 : S10000x10000.Idx → EReal) (x1 : S10000x128.Idx → EReal) (x2 : S128x128.Idx → EReal) (x3 : S128.Idx → EReal)
  (x4 : S128x128.Idx → EReal) (x5 : S128.Idx → EReal)

/-- The kernel's B is the reference's, S, X and W1 being finite. -/
theorem rows_eq (h0 : ∀ i, ∃ r : ℝ, x0 i = r) (h1 : ∀ i, ∃ r : ℝ, x1 i = r) (h2 : ∀ i, ∃ r : ℝ, x2 i = r) :
    mat (rowsOf x0 x1 x2 (asRow x3) x4) = refB x0 x1 x2 x3 x4 := by
  have hb : (fun l => asRow x3 (ix2 0 l)) = fun l => x3 (ix1 l) := funext fun l => asRow_apply x3 l
  unfold rowsOf refB
  rw [hb, Math.hidden'_eq (mat x0) (mat x1) (mat x2) _ (fun i k => h0 _) (fun k m => h1 _) (fun m l => h2 _)]

/-- The totals of products of stored codes are at most 2^26 where the precondition bounds them. -/
theorem totals_le (B : S10000x128.Idx → EReal)
    (h : ∀ i j, ∑ k : Fin 10000, Math.mag (Math.clip (x0 (ix2 i k) * 127)) * Math.mag (Math.clip (Math.grid tiny (mat B) k j))
      ≤ (((2 ^ 26 : ℕ) : ℝ) : EReal)) (i : Fin 10000) (j : Fin 128) : total (codesOf x0) (gridCodesOf B) i j ≤ 2 ^ 26 :=
  Math.total_le (fun k => x0 (ix2 i k) * 127) (fun k => Math.grid tiny (mat B) k j) (2 ^ 26) (h i j)

/-- An element of the kernel's result is the reference's. -/
theorem element (B : S10000x128.Idx → EReal) (i : Fin 10000) (j : Fin 128) :
    resultOf (codesOf x0) (gridCodesOf B) (scalesOf B) (asRow x5) (ix2 i j)
      = (∑ k : Fin 10000, Ideal.div (Math.clip (x0 (ix2 i k) * 127)) 127
          * (Math.clip (Math.grid tiny (mat B) k j) * Math.step tiny (mat B) j)) + x5 (ix1 j) := by
  rw [← asRow_apply x5 j, ← Math.scale_out (fun k => x0 (ix2 i k) * 127) (fun k => Math.grid tiny (mat B) k j) (Math.step tiny (mat B) j)
    (Math.step_pos tiny_pos _ _) (fun ht k => Math.grid_top _ _ _ ht)]
  rfl

/-- The whole array. -/
theorem equation (h : Cert.Pre_exact_range.fn (F := Ideal) x0 x1 x2 x3 x4 x5 = fun _ => 1#1) :
    (∀ i j, total (codesOf x0) (gridCodesOf (rowsOf x0 x1 x2 (asRow x3) x4)) i j ≤ 2 ^ 26)
      ∧ resultOf (codesOf x0) (gridCodesOf (rowsOf x0 x1 x2 (asRow x3) x4)) (scalesOf (rowsOf x0 x1 x2 (asRow x3) x4)) (asRow x5)
        = Cert.ReferenceIdeal.Read.val_main_v29 (F := Ideal) x0 x1 x2 x3 x4 x5 := by
  obtain ⟨h0, h1, h2, hT⟩ := Precondition.read x0 x1 x2 x3 x4 x5 h
  rw [← rows_eq x0 x1 x2 x3 x4 h0 h1 h2] at hT
  refine ⟨totals_le x0 _ hT, funext fun y => ?_⟩
  obtain ⟨i, j, rfl⟩ : ∃ (i : Fin 10000) (j : Fin 128), y = ix2 i j := ⟨y 0, y 1, eq_ix2 y⟩
  rw [element, Reference.result_eq, rows_eq x0 x1 x2 x3 x4 h0 h1 h2]

end Cert.Proof.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_exact_range
public import proofs.«01_k».proof.Proof.Run
public import proofs.«01_k».proof.Proof.Equation
public import Idealize.ShloMosaic.Lib.Quiescent

@[expose] public section

noncomputable section

namespace Cert.Proof

open Idealize.ShloMosaic Idealize.SL.Sem

/-- The reference ends with its arguments as launched and its counters at zero. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The kernel's result is the reference's, while the precondition holds. -/
theorem algebraic : Cert.algebraic_KernelIdeal_ReferenceIdeal_pre_exact_range := fun m g m' g' hpre hargs => by
  have eq := fun c => Equation.equation _ _ _ _ _ _ (hpre c)
  refine ⟨fun c => (Cert.KernelIdeal.Gen.dat2 (Cert.KernelIdeal.Gen.V4 m g) c).arrAt 4 Cert.KernelIdeal.cfg2.N, Run.run m g,
    (θ_run Cert.ReferenceIdeal.defs _ _).mono (fun r h c => ⟨(h c).1.trans ?_, (h c).2⟩) (Cert.ReferenceIdeal.Value.run (F := Ideal) m' g')⟩
  obtain ⟨a0, a1, a2, a3, a4, a5⟩ := hargs c
  rw [Cert.ReferenceIdeal.Read.val_main_v29_eq, a0, a1, a2, a3, a4, a5]
  exact ((Chain.result m g c (eq c).1).trans (eq c).2).symm

theorem claim : Cert.Claim :=
  ⟨Cert.Kernel.Gen.facts, Cert.KernelIdeal.Gen.facts, Cert.ReferenceIdeal.Gen.facts, Cert.Pre_exact_range.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    IdealRules.named_const.statement Cert.KernelIdeal.κ "inv127" .f32 0x3C010204#32 ((1 / 127 : ℝ) : EReal) rfl, algebraic⟩

end Cert.Proof

end
